-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3072x36864 : Shape := ⟨3, ![1, 3072, 36864]⟩
abbrev S1x3072x1 : Shape := ⟨3, ![1, 3072, 1]⟩
abbrev S36864x4608 : Shape := ⟨2, ![36864, 4608]⟩
abbrev S4608 : Shape := ⟨1, ![4608]⟩
abbrev S1x3072x4608 : Shape := ⟨3, ![1, 3072, 4608]⟩
abbrev S3072x36864 : Shape := ⟨2, ![3072, 36864]⟩
abbrev S3072x1 : Shape := ⟨2, ![3072, 1]⟩
abbrev S1x4608 : Shape := ⟨2, ![1, 4608]⟩
abbrev S3072x4608 : Shape := ⟨2, ![3072, 4608]⟩
abbrev S1024x6144 : Shape := ⟨2, ![1024, 6144]⟩
abbrev S1024x1 : Shape := ⟨2, ![1024, 1]⟩
abbrev S6144x1536 : Shape := ⟨2, ![6144, 1536]⟩
abbrev S1x1536 : Shape := ⟨2, ![1, 1536]⟩
abbrev S1024x1536 : Shape := ⟨2, ![1024, 1536]⟩

abbrev nBuf : Space → Nat
  | .hbm => 11
  | .vmem => 13
  | .smem => 0
  | _ => 0

abbrev bufTy : (tb : Table) → Fin (tcTables nBuf tb) → BufTy
  | .hbm, ⟨0, _⟩ => ⟨S1x3072x36864, .fp8e4m3⟩
  | .hbm, ⟨1, _⟩ => ⟨S1x3072x1, .f32⟩
  | .hbm, ⟨2, _⟩ => ⟨S36864x4608, .fp8e4m3⟩
  | .hbm, ⟨3, _⟩ => ⟨S4608, .f32⟩
  | .hbm, ⟨4, _⟩ => ⟨S1x3072x4608, .bf16⟩
  | .hbm, ⟨5, _⟩ => ⟨S3072x36864, .fp8e4m3⟩
  | .hbm, ⟨6, _⟩ => ⟨S3072x1, .f32⟩
  | .hbm, ⟨7, _⟩ => ⟨S1x4608, .f32⟩
  | .hbm, ⟨8, _⟩ => ⟨S3072x4608, .bf16⟩
  | .hbm, ⟨9, _⟩ => ⟨S3072x4608, .bf16⟩
  | .hbm, ⟨10, _⟩ => ⟨S1x3072x4608, .bf16⟩
  | .local _ .vmem, ⟨0, _⟩ => ⟨S1024x6144, .fp8e4m3⟩
  | .local _ .vmem, ⟨1, _⟩ => ⟨S1024x6144, .fp8e4m3⟩
  | .local _ .vmem, ⟨2, _⟩ => ⟨S1024x1, .f32⟩
  | .local _ .vmem, ⟨3, _⟩ => ⟨S1024x1, .f32⟩
  | .local _ .vmem, ⟨4, _⟩ => ⟨S6144x1536, .fp8e4m3⟩
  | .local _ .vmem, ⟨5, _⟩ => ⟨S6144x1536, .fp8e4m3⟩
  | .local _ .vmem, ⟨6, _⟩ => ⟨S1x1536, .f32⟩
  | .local _ .vmem, ⟨7, _⟩ => ⟨S1x1536, .f32⟩
  | .local _ .vmem, ⟨8, _⟩ => ⟨S1024x1536, .bf16⟩
  | .local _ .vmem, ⟨9, _⟩ => ⟨S1024x1536, .bf16⟩
  | .local _ .vmem, ⟨10, _⟩ => ⟨S1024x1536, .bf16⟩
  | .local _ .vmem, ⟨11, _⟩ => ⟨S1024x1536, .bf16⟩
  | .local _ .vmem, ⟨12, _⟩ => ⟨S1024x1536, .f32⟩
  | _, _ => ⟨S1x3072x36864, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![3, 3, 6], ![false, false, false]⟩

def k0_cond3 (i : grid0.Coords) : BitVec 1 :=
  let arg2 : BitVec 32 := BitVec.ofNat 32 (i 2).val
  let c5_i32_3 : BitVec 32 := 5#32
  let v8 : BitVec 1 := Scalar.cmpi .eq arg2 c5_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6144 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S6144x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S1x3072x36864 : Shape := ⟨3, ![1, 3072, 36864]⟩
abbrev S1x3072x1 : Shape := ⟨3, ![1, 3072, 1]⟩
abbrev S36864x4608 : Shape := ⟨2, ![36864, 4608]⟩
abbrev S4608 : Shape := ⟨1, ![4608]⟩
abbrev S1x3072x4608 : Shape := ⟨3, ![1, 3072, 4608]⟩
abbrev S1x1x4608 : Shape := ⟨3, ![1, 1, 4608]⟩

abbrev nBuf : Space → Nat
  | .hbm => 6
  | .vmem => 6
  | .smem => 0
  | _ => 0

abbrev bufTy : (tb : Table) → Fin (tcTables nBuf tb) → BufTy
  | .hbm, ⟨0, _⟩ => ⟨S1x3072x36864, .fp8e4m3⟩
  | .hbm, ⟨1, _⟩ => ⟨S1x3072x1, .f32⟩
  | .hbm, ⟨2, _⟩ => ⟨S36864x4608, .fp8e4m3⟩
  | .hbm, ⟨3, _⟩ => ⟨S4608, .f32⟩
  | .hbm, ⟨4, _⟩ => ⟨S1x3072x4608, .bf16⟩
  | .hbm, ⟨5, _⟩ => ⟨S1x3072x4608, .bf16⟩
  | .local _ .vmem, ⟨0, _⟩ => ⟨S1x3072x36864, .fp8e4m3⟩
  | .local _ .vmem, ⟨1, _⟩ => ⟨S1x3072x1, .f32⟩
  | .local _ .vmem, ⟨2, _⟩ => ⟨S36864x4608, .fp8e4m3⟩
  | .local _ .vmem, ⟨3, _⟩ => ⟨S4608, .f32⟩
  | .local _ .vmem, ⟨4, _⟩ => ⟨S1x3072x4608, .bf16⟩
  | .local _ .vmem, ⟨5, _⟩ => ⟨S1x3072x4608, .bf16⟩
  | _, _ => ⟨S1x3072x36864, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x3072x36864 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36864x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/-
  What ONE BLOCK of the kernel computes. A grid point loads a 1024 by 6144 block of the quantized activations and a 6144
  by 1536 block of the quantized weight and multiplies them. The first point along the contracted axis stores that product in
  the scratch accumulator, the middle points add their product to it, and the last point adds its own product, applies the row
  scale, the column scale and the residual, and stores the output block. Here each of the three is first the kernel's own
  payload (for any reading of the floats), then, over the extended reals, an explicit formula at an index.
-/
module

public import proofs.«01_k».proof.Proof.Gen.KernelIdeal.Frame
public import Idealize.ShloMosaic.Lib.Pipeline.Value
public import Idealize.ShloMosaic.Lib.Tactic
public import Idealize.ShloMosaic.Lib.ValueIdx
public import Idealize.ShloMosaic.Lib.ValueLayout
public import Idealize.ShloMosaic.Lib.MatmulPlain

@[expose] public section

noncomputable section

namespace Cert.KernelIdeal.Down

open Cert.KernelIdeal Cert.KernelIdeal.Gen Idealize.ShloMosaic Idealize.ShloMosaic.TcCoe Idealize.SL.Sem
open Idealize.ShloMosaic.ValueIdx
open scoped BigOperators

/-! ## The three cases are the kernel's three payloads -/

section Payloads
variable {F : FTy → Type} [FloatOps F]

/-- The zero offsets of a whole load or store. -/
theorem hz : (![0, 0] : Fin 2 → Nat) = fun _ => 0 := funext fun a => by fin_cases a <;> rfl

/-- The FIRST point of a run leaves in the scratch accumulator the product of its two blocks, whatever it held before. -/
theorem scratch_first (c : Dev nD) (i : grid0.Coords)
    (a3 : Memref sig .tc .vmem S1024x6144 .fp8e4m3) (h3 : a3.IsWhole) (a4 : Memref sig .tc .vmem S1024x1 .f32) (h4 : a4.IsWhole)
    (a5 : Memref sig .tc .vmem S6144x1536 .fp8e4m3) (h5 : a5.IsWhole) (a6 : Memref sig .tc .vmem S1x1536 .f32) (h6 : a6.IsWhole)
    (a7 : Memref sig .tc .vmem S1024x1536 .bf16) (h7 : a7.IsWhole) (a8 : Memref sig .tc .vmem S1024x1536 .bf16) (h8 : a8.IsWhole)
    (a9 : Memref sig .tc .vmem S1024x1536 .f32) (h9 : a9.IsWhole) (hc0 : cond0_0 i) (hc1 : ¬cond0_1 i) (hc2 : ¬cond0_2 i)
    (x0 : Vec F S1024x6144 .fp8e4m3) (x1 : Vec F S1024x1 .f32)
    (x2 : Vec F S6144x1536 .fp8e4m3) (x3 : Vec F S1x1536 .f32) (x4 : Vec F S1024x1536 .bf16) :
    sout0_A_0 c i a3 h3 a4 h4 a5 h5 a6 h6 a7 h7 a8 h8 a9 h9 hc0 hc1 hc2 x0 x1 x2 x3 x4 = k0_pay1 x0 x2 := by
  unfold sout0_A_0
  rw [View.read_writes_eq_canon _ _ _ (scover0_A_0 c i a3 h3 a4 h4 a5 h5 a6 h6 a7 h7 a8 h8 a9 h9 hc0 hc1 hc2 x0 x1 x2 x3 x4)]
  unfold kernelRun0_A
  dsimp only
  sl_unfold_words
  rw [View.canon_unit_zero hz]
  simp only [View.readAt_eq_ld, h3.read_unread, h4.read_unread, h5.read_unread, h6.read_unread, h7.read_unread, h8.read_unread,
    h9.read_unread, View.ld_unit_zero (S := S1024x6144) hz, View.ld_unit_zero (S := S6144x1536) hz, View.ld_unit_zero (S := S1024x1) hz,
    View.ld_unit_zero (S := S1x1536) hz, View.ld_unit_zero (S := S1024x1536) hz]

/-- A MIDDLE point of a run leaves in the scratch accumulator what it held (`xs`) plus the product of its two blocks. -/
theorem scratch_middle (c : Dev nD) (i : grid0.Coords)
    (a3 : Memref sig .tc .vmem S1024x6144 .fp8e4m3) (h3 : a3.IsWhole) (a4 : Memref sig .tc .vmem S1024x1 .f32) (h4 : a4.IsWhole)
    (a5 : Memref sig .tc .vmem S6144x1536 .fp8e4m3) (h5 : a5.IsWhole) (a6 : Memref sig .tc .vmem S1x1536 .f32) (h6 : a6.IsWhole)
    (a7 : Memref sig .tc .vmem S1024x1536 .bf16) (h7 : a7.IsWhole) (a8 : Memref sig .tc .vmem S1024x1536 .bf16) (h8 : a8.IsWhole)
    (a9 : Memref sig .tc .vmem S1024x1536 .f32) (h9 : a9.IsWhole) (hc0 : ¬cond0_0 i) (hc1 : cond0_1 i) (hc2 : ¬cond0_2 i)
    (x0 : Vec F S1024x6144 .fp8e4m3) (x1 : Vec F S1024x1 .f32)
    (x2 : Vec F S6144x1536 .fp8e4m3) (x3 : Vec F S1x1536 .f32) (x4 : Vec F S1024x1536 .bf16) (xs : Vec F S1024x1536 .f32) :
    sout0_B_0 c i a3 h3 a4 h4 a5 h5 a6 h6 a7 h7 a8 h8 a9 h9 hc0 hc1 hc2 x0 x1 x2 x3 x4 xs = k0_pay2 xs x0 x2 := by
  unfold sout0_B_0
  rw [View.read_writes_eq_canon _ _ _ (scover0_B_0 c i a3 h3 a4 h4 a5 h5 a6 h6 a7 h7 a8 h8 a9 h9 hc0 hc1 hc2 x0 x1 x2 x3 x4 xs)]
  unfold kernelRun0_B
  dsimp only
  sl_unfold_words
  rw [View.canon_unit_zero hz]
  simp only [View.readAt_eq_ld, h3.read_unread, h4.read_unread, h5.read_unread, h6.read_unread, h7.read_unread, h8.read_unread,
    h9.read_unread, View.ld_unit_zero (S := S1024x6144) hz, View.ld_unit_zero (S := S6144x1536) hz, View.ld_unit_zero (S := S1024x1) hz,
    View.ld_unit_zero (S := S1x1536) hz, View.ld_unit_zero (S := S1024x1536) hz]

/-- The LAST point of a run stores in the output block the accumulator (`xs`) plus its own product, scaled by the row scales and
    the column scales, plus the residual block, rounded to the output format. -/
theorem out_last (c : Dev nD) (i : grid0.Coords)
    (a3 : Memref sig .tc .vmem S1024x6144 .fp8e4m3) (h3 : a3.IsWhole) (a4 : Memref sig .tc .vmem S1024x1 .f32) (h4 : a4.IsWhole)
    (a5 : Memref sig .tc .vmem S6144x1536 .fp8e4m3) (h5 : a5.IsWhole) (a6 : Memref sig .tc .vmem S1x1536 .f32) (h6 : a6.IsWhole)
    (a7 : Memref sig .tc .vmem S1024x1536 .bf16) (h7 : a7.IsWhole) (a8 : Memref sig .tc .vmem S1024x1536 .bf16) (h8 : a8.IsWhole)
    (a9 : Memref sig .tc .vmem S1024x1536 .f32) (h9 : a9.IsWhole) (hc0 : ¬cond0_0 i) (hc1 : ¬cond0_1 i) (hc2 : cond0_2 i)
    (x0 : Vec F S1024x6144 .fp8e4m3) (x1 : Vec F S1024x1 .f32)
    (x2 : Vec F S6144x1536 .fp8e4m3) (x3 : Vec F S1x1536 .f32) (x4 : Vec F S1024x1536 .bf16) (xs : Vec F S1024x1536 .f32) :
    out0_C_5 c i a3 h3 a4 h4 a5 h5 a6 h6 a7 h7 a8 h8 a9 h9 hc0 hc1 hc2 x0 x1 x2 x3 x4 xs = k0_pay3 xs x0 x2 x1 x3 x4 := by
  unfold out0_C_5
  rw [View.read_writes_eq_canon _ _ _ (cover0_C_5 c i a3 h3 a4 h4 a5 h5 a6 h6 a7 h7 a8 h8 a9 h9 hc0 hc1 hc2 x0 x1 x2 x3 x4 xs)]
  unfold kernelRun0_C
  dsimp only
  sl_unfold_words
  rw [View.canon_unit_zero hz]
  simp only [View.readAt_eq_ld, h3.read_unread, h4.read_unread, h5.read_unread, h6.read_unread, h7.read_unread, h8.read_unread,
    h9.read_unread, View.ld_unit_zero (S := S1024x6144) hz, View.ld_unit_zero (S := S6144x1536) hz, View.ld_unit_zero (S := S1024x1) hz,
    View.ld_unit_zero (S := S1x1536) hz, View.ld_unit_zero (S := S1024x1536) hz]

end Payloads

/-! ## The payloads over the extended reals, read at an index -/

/-- The block product at row `p`, column `q`: the sum of the products along the 6144 contracted positions. -/
theorem blockProduct_apply (x : FVec Ideal S1024x6144 .fp8e4m3) (w : FVec Ideal S6144x1536 .fp8e4m3) (p : Fin 1024) (q : Fin 1536) :
    (matmul dot_S1024x6144_S6144x1536_S1024x1536_1_0_0_1_n_n none x w (constant (F := Ideal) S1024x1536 .f32 0x00000000#32)
      : FVec Ideal S1024x1536 .f32) (ix2 p q) = ∑ l : Fin 6144, x (ix2 p l) * w (ix2 l q) := by
  refine (Ideal.matmul_plain_apply (M := 1024) (K := 6144) (N := 1536) none x w _ p q).trans ?_
  rw [constant_apply, Ideal.ofBits_zero_f32, zero_add]

/-- What the first point stores, at an index. -/
theorem pay1_apply (x : FVec Ideal S1024x6144 .fp8e4m3) (w : FVec Ideal S6144x1536 .fp8e4m3) (p : Fin 1024) (q : Fin 1536) :
    k0_pay1 (F := Ideal) x w (ix2 p q) = ∑ l : Fin 6144, x (ix2 p l) * w (ix2 l q) := by
  unfold k0_pay1
  simp only [shapeCast_self]
  exact blockProduct_apply x w p q

/-- What a middle point stores, at an index. -/
theorem pay2_apply (acc : FVec Ideal S1024x1536 .f32) (x : FVec Ideal S1024x6144 .fp8e4m3) (w : FVec Ideal S6144x1536 .fp8e4m3)
    (p : Fin 1024) (q : Fin 1536) :
    k0_pay2 (F := Ideal) acc x w (ix2 p q) = acc (ix2 p q) + ∑ l : Fin 6144, x (ix2 p l) * w (ix2 l q) := by
  unfold k0_pay2
  simp only [shapeCast_self]
  exact congrArg (acc (ix2 p q) + ·) (blockProduct_apply x w p q)

/-- A column of row scales, broadcast along the columns, reads its row's scale. -/
theorem rowScale_apply (s : FVec Ideal S1024x1 .f32) (p : Fin 1024) (q : Fin 1536) :
    broadcastTo S1024x1536 s broadcasts_S1024x1_S1024x1536 (ix2 p q) = s (ix2 p (0 : Fin 1)) :=
  broadcastTo_apply s _ (ix2 p q) (ix2 p (0 : Fin 1)) fun a => by
    match a with
    | ⟨0, _⟩ => rfl
    | ⟨1, _⟩ => rfl

/-- A row of column scales, broadcast along the rows, reads its column's scale. -/
theorem colScale_apply (s : FVec Ideal S1x1536 .f32) (p : Fin 1024) (q : Fin 1536) :
    broadcastTo S1024x1536 s broadcasts_S1x1536_S1024x1536 (ix2 p q) = s (ix2 (0 : Fin 1) q) :=
  broadcastTo_1b_ab_apply s _ p q

/-- What the last point stores in the output block, at an index. -/
theorem pay3_apply (acc : FVec Ideal S1024x1536 .f32) (x : FVec Ideal S1024x6144 .fp8e4m3) (w : FVec Ideal S6144x1536 .fp8e4m3)
    (xs : FVec Ideal S1024x1 .f32) (ws : FVec Ideal S1x1536 .f32) (res : FVec Ideal S1024x1536 .bf16) (p : Fin 1024) (q : Fin 1536) :
    k0_pay3 (F := Ideal) acc x w xs ws res (ix2 p q)
      = ((acc (ix2 p q) + ∑ l : Fin 6144, x (ix2 p l) * w (ix2 l q)) * xs (ix2 p (0 : Fin 1))) * ws (ix2 (0 : Fin 1) q)
        + res (ix2 p q) := by
  unfold k0_pay3
  simp only [shapeCast_self]
  rw [truncf_apply, addf_apply, mulf_apply, mulf_apply, addf_apply, extf_apply, rowScale_apply, colScale_apply, blockProduct_apply]

end Cert.KernelIdeal.Down

end
-- ==== Proof.Sums.lean ====
/-
  The EQUATION behind the tiling: a sum over the 36864 contracted positions, taken 6144 positions at a time. Over the extended
  reals addition is associative and commutative with no side condition, so no hypothesis on the entries is needed.
-/
module

public import Mathlib.Data.EReal.Basic
public import Mathlib.Algebra.BigOperators.Fin
public import Mathlib.Algebra.BigOperators.Intervals

@[expose] public section

noncomputable section

namespace Cert.Down

open scoped BigOperators

/-- `f` continued by zero past its last position. -/
def extend (f : Fin 36864 → EReal) (n : ℕ) : EReal := if h : n < 36864 then f ⟨n, h⟩ else 0

/-- The sum of `f` over its first `k` stretches of 6144 positions. -/
def partialSum (f : Fin 36864 → EReal) (k : ℕ) : EReal := ∑ n ∈ Finset.range (6144 * k), extend f n

/-- Over no stretch the sum is zero. -/
theorem partialSum_zero (f : Fin 36864 → EReal) : partialSum f 0 = 0 := by
  simp [partialSum]

/-- One stretch more adds the sum over that stretch. -/
theorem partialSum_succ (f : Fin 36864 → EReal) (k : ℕ) (hk : k < 6) :
    partialSum f (k + 1) = partialSum f k + ∑ l : Fin 6144, f ⟨6144 * k + l.val, by have := l.isLt; omega⟩ := by
  unfold partialSum
  rw [Nat.mul_succ, Finset.sum_range_add, Finset.sum_range (fun n => extend f (6144 * k + n))]
  refine congrArg (_ + ·) (Finset.sum_congr rfl fun l _ => ?_)
  unfold extend
  rw [dif_pos]

/-- The six stretches are the whole sum. -/
theorem partialSum_six (f : Fin 36864 → EReal) : partialSum f 6 = ∑ n : Fin 36864, f n := by
  unfold partialSum
  rw [show 6144 * 6 = 36864 from rfl, Finset.sum_range]
  refine Finset.sum_congr rfl fun n _ => ?_
  unfold extend
  rw [dif_pos n.isLt]

end Cert.Down

end
-- ==== Proof.Array.lean ====
/-
  What the kernel's OUTPUT ARRAY holds after the tiled loop, over the extended reals. Grid point `t` works on row block `t / 18`,
  column block `t / 6 % 3` and stretch `t % 6` of the contracted axis. Short of a run's last point the scratch accumulator after `t` is the sum of the
  products over the stretches `0 … t % 6` (`scratch_eq`, by induction on the point); the last point of each run of six writes the
  output block back (`out_eq`); the nine blocks tile the array (`array_eq`).
-/
module

public import proofs.«01_k».proof.Proof.Block
public import proofs.«01_k».proof.Proof.Sums

@[expose] public section

noncomputable section

namespace Cert.KernelIdeal.Down

open Cert.KernelIdeal Cert.KernelIdeal.Gen Idealize.ShloMosaic Idealize.ShloMosaic.TcCoe Idealize.SL.Sem
open Idealize.ShloMosaic.ValueIdx Cert.Down
open Idealize.ShloMosaic.Pipeline (Dat)
open scoped BigOperators

variable (m : (ℓ : Loc nD τ sig) → Buf (Elt Ideal) ℓ)

/-! ## The five arrays the tiled loop reads -/

/-- The quantized activations, tokens by contracted positions. -/
abbrev X (c : Dev nD) : FVec Ideal S3072x36864 .fp8e4m3 := V m c main_v0
/-- The row scales. -/
abbrev XS (c : Dev nD) : FVec Ideal S3072x1 .f32 := V m c main_v1
/-- The quantized weight, contracted positions by output columns. -/
abbrev W (c : Dev nD) : FVec Ideal S36864x4608 .fp8e4m3 := V m c main_arg2
/-- The column scales. -/
abbrev WS (c : Dev nD) : FVec Ideal S1x4608 .f32 := V m c main_v2
/-- The residual. -/
abbrev RES (c : Dev nD) : FVec Ideal S3072x4608 .bf16 := V m c main_v3

/-! ## Where each block lies in its array -/

/-- The array row of row `p` of point `t`'s blocks. -/
def row (t : Fin cfg0.N) (p : Fin 1024) : Fin 3072 :=
  ⟨1024 * (t.val / 18) + p.val, by have h := lt_of_lt_of_eq t.isLt N_0; have := p.isLt; omega⟩
/-- The array column of column `q` of point `t`'s blocks. -/
def col (t : Fin cfg0.N) (q : Fin 1536) : Fin 4608 :=
  ⟨1536 * (t.val / 6 % 3) + q.val, by have := q.isLt; omega⟩
/-- The contracted position of position `l` of point `t`'s blocks. -/
def pos (t : Fin cfg0.N) (l : Fin 6144) : Fin 36864 :=
  ⟨6144 * (t.val % 6) + l.val, by have := l.isLt; omega⟩

/-- Point `t`'s block of the activations is at row block `t / 18`, stretch `t % 6`. -/
theorem index0 : ∀ t : Fin cfg0.N, win0_0.index t (0 : Fin 2) = t.val / 18 ∧ win0_0.index t (1 : Fin 2) = t.val % 6 :=
  (by decide +kernel : ∀ t : Fin grid0.N, _)
/-- Point `t`'s block of the row scales is at row block `t / 18`. -/
theorem index1 : ∀ t : Fin cfg0.N, win0_1.index t (0 : Fin 2) = t.val / 18 ∧ win0_1.index t (1 : Fin 2) = 0 :=
  (by decide +kernel : ∀ t : Fin grid0.N, _)
/-- Point `t`'s block of the weight is at stretch `t % 6`, column block `t / 6 % 3`. -/
theorem index2 : ∀ t : Fin cfg0.N, win0_2.index t (0 : Fin 2) = t.val % 6 ∧ win0_2.index t (1 : Fin 2) = t.val / 6 % 3 :=
  (by decide +kernel : ∀ t : Fin grid0.N, _)
/-- Point `t`'s block of the column scales is at column block `t / 6 % 3`. -/
theorem index3 : ∀ t : Fin cfg0.N, win0_3.index t (0 : Fin 2) = 0 ∧ win0_3.index t (1 : Fin 2) = t.val / 6 % 3 :=
  (by decide +kernel : ∀ t : Fin grid0.N, _)
/-- Point `t`'s block of the residual is at row block `t / 18`, column block `t / 6 % 3`. -/
theorem index4 : ∀ t : Fin cfg0.N, win0_4.index t (0 : Fin 2) = t.val / 18 ∧ win0_4.index t (1 : Fin 2) = t.val / 6 % 3 :=
  (by decide +kernel : ∀ t : Fin grid0.N, _)
/-- Point `t`'s block of the output is at row block `t / 18`, column block `t / 6 % 3`. -/
theorem index5 : ∀ t : Fin cfg0.N, win0_5.index t (0 : Fin 2) = t.val / 18 ∧ win0_5.index t (1 : Fin 2) = t.val / 6 % 3 :=
  (by decide +kernel : ∀ t : Fin grid0.N, _)

/-- The activations' block at an index. -/
theorem block0_apply (c : Dev nD) (t : Fin cfg0.N) (p : Fin 1024) (l : Fin 6144) :
    (iblk m c 0 t : FVec Ideal S1024x6144 .fp8e4m3) (ix2 p l) = X m c (ix2 (row t p) (pos t l)) := by
  obtain ⟨e0, e1⟩ := index0 t
  show X m c (((cfg0.win 0).blk t).view.emb (ix2 p l)) = _
  refine congrArg (X m c) (funext fun a => Fin.ext ?_)
  match a with
  | ⟨0, _⟩ => show win0_0.index t (0 : Fin 2) * 1024 + 1 * p.val = 1024 * (t.val / 18) + p.val; omega
  | ⟨1, _⟩ => show win0_0.index t (1 : Fin 2) * 6144 + 1 * l.val = 6144 * (t.val % 6) + l.val; omega

/-- The row scales' block at an index. -/
theorem block1_apply (c : Dev nD) (t : Fin cfg0.N) (p : Fin 1024) (u : Fin 1) :
    (iblk m c 1 t : FVec Ideal S1024x1 .f32) (ix2 p u) = XS m c (ix2 (row t p) u) := by
  obtain ⟨e0, e1⟩ := index1 t
  show XS m c (((cfg0.win 1).blk t).view.emb (ix2 p u)) = _
  refine congrArg (XS m c) (funext fun a => Fin.ext ?_)
  match a with
  | ⟨0, _⟩ => show win0_1.index t (0 : Fin 2) * 1024 + 1 * p.val = 1024 * (t.val / 18) + p.val; omega
  | ⟨1, _⟩ => show win0_1.index t (1 : Fin 2) * 1 + 1 * u.val = u.val; omega

/-- The weight's block at an index. -/
theorem block2_apply (c : Dev nD) (t : Fin cfg0.N) (l : Fin 6144) (q : Fin 1536) :
    (iblk m c 2 t : FVec Ideal S6144x1536 .fp8e4m3) (ix2 l q) = W m c (ix2 (pos t l) (col t q)) := by
  obtain ⟨e0, e1⟩ := index2 t
  show W m c (((cfg0.win 2).blk t).view.emb (ix2 l q)) = _
  refine congrArg (W m c) (funext fun a => Fin.ext ?_)
  match a with
  | ⟨0, _⟩ => show win0_2.index t (0 : Fin 2) * 6144 + 1 * l.val = 6144 * (t.val % 6) + l.val; omega
  | ⟨1, _⟩ => show win0_2.index t (1 : Fin 2) * 1536 + 1 * q.val = 1536 * (t.val / 6 % 3) + q.val; omega

/-- The column scales' block at an index. -/
theorem block3_apply (c : Dev nD) (t : Fin cfg0.N) (u : Fin 1) (q : Fin 1536) :
    (iblk m c 3 t : FVec Ideal S1x1536 .f32) (ix2 u q) = WS m c (ix2 u (col t q)) := by
  obtain ⟨e0, e1⟩ := index3 t
  show WS m c (((cfg0.win 3).blk t).view.emb (ix2 u q)) = _
  refine congrArg (WS m c) (funext fun a => Fin.ext ?_)
  match a with
  | ⟨0, _⟩ => show win0_3.index t (0 : Fin 2) * 1 + 1 * u.val = u.val; omega
  | ⟨1, _⟩ => show win0_3.index t (1 : Fin 2) * 1536 + 1 * q.val = 1536 * (t.val / 6 % 3) + q.val; omega

/-- The residual's block at an index. -/
theorem block4_apply (c : Dev nD) (t : Fin cfg0.N) (p : Fin 1024) (q : Fin 1536) :
    (iblk m c 4 t : FVec Ideal S1024x1536 .bf16) (ix2 p q) = RES m c (ix2 (row t p) (col t q)) := by
  obtain ⟨e0, e1⟩ := index4 t
  show RES m c (((cfg0.win 4).blk t).view.emb (ix2 p q)) = _
  refine congrArg (RES m c) (funext fun a => Fin.ext ?_)
  match a with
  | ⟨0, _⟩ => show win0_4.index t (0 : Fin 2) * 1024 + 1 * p.val = 1024 * (t.val / 18) + p.val; omega
  | ⟨1, _⟩ => show win0_4.index t (1 : Fin 2) * 1536 + 1 * q.val = 1536 * (t.val / 6 % 3) + q.val; omega

/-! ## The accumulator and the output block -/

/-- The product of activation row `r` with weight column `n`, position by position. -/
abbrev prods (c : Dev nD) (r : Fin 3072) (n : Fin 4608) : Fin 36864 → EReal := fun k => X m c (ix2 r k) * W m c (ix2 k n)

/-- Point `t`'s block of the activations. -/
abbrev XB (c : Dev nD) (t : Fin cfg0.N) : FVec Ideal S1024x6144 .fp8e4m3 := iblk m c 0 t
/-- Point `t`'s block of the weight. -/
abbrev WB (c : Dev nD) (t : Fin cfg0.N) : FVec Ideal S6144x1536 .fp8e4m3 := iblk m c 2 t

/-- The product of point `t`'s two blocks is the sum over stretch `t % 6`. -/
theorem blockSum_eq (c : Dev nD) (t : Fin cfg0.N) (k : ℕ) (hk : t.val % 6 = k) (p : Fin 1024) (q : Fin 1536) :
    partialSum (prods m c (row t p) (col t q)) k
        + ∑ l : Fin 6144, XB m c t (ix2 p l) * WB m c t (ix2 l q)
      = partialSum (prods m c (row t p) (col t q)) (k + 1) := by
  subst hk
  rw [partialSum_succ _ _ (Nat.mod_lt _ (by decide))]
  refine congrArg (_ + ·) (Finset.sum_congr rfl fun l _ => ?_)
  exact congrArg₂ (· * ·) (block0_apply m c t p l) (block2_apply m c t l q)

/-- The SCRATCH ACCUMULATOR after point `n`, short of a run's last point: the sum over the stretches `0 … n % 6`. -/
theorem scratch_eq (c : Dev nD) : ∀ (n : ℕ) (hn : n < cfg0.N), n % 6 ≤ 4 → ∀ (p : Fin 1024) (q : Fin 1536),
    ((outsAt0 m c n hn).2 : FVec Ideal S1024x1536 .f32) (ix2 p q)
      = partialSum (prods m c (row ⟨n, hn⟩ p) (col ⟨n, hn⟩ q)) (n % 6 + 1) := by
  intro n
  induction n with
  | zero =>
    intro hn _ p q
    rw [outsAt0_A m c ⟨0, hn⟩ (by dsimp only) (by dsimp only; omega) (by dsimp only; omega)]
    dsimp only
    rw [scratch_first, pay1_apply, ← blockSum_eq m c ⟨0, hn⟩ (0 % 6) rfl p q, partialSum_zero, zero_add]
  | succ n ih =>
    intro hn h4 p q
    by_cases h0 : (n + 1) % 6 = 0
    · rw [outsAt0_A m c ⟨n + 1, hn⟩ h0 (by dsimp only; omega) (by dsimp only; omega)]
      dsimp only
      rw [scratch_first, pay1_apply, ← blockSum_eq m c ⟨n + 1, hn⟩ ((n + 1) % 6) rfl p q, h0, partialSum_zero, zero_add]
    · rw [outsAt0_B m c ⟨n + 1, hn⟩ h0 (by dsimp only; omega) (by dsimp only; omega)]
      dsimp only
      have hr : row ⟨n, Nat.lt_of_succ_lt hn⟩ p = row ⟨n + 1, hn⟩ p := Fin.ext (by dsimp only [row]; omega)
      have hc : col ⟨n, Nat.lt_of_succ_lt hn⟩ q = col ⟨n + 1, hn⟩ q := Fin.ext (by dsimp only [col]; omega)
      have e := ih (Nat.lt_of_succ_lt hn) (by omega) p q
      rw [hr, hc, show n % 6 + 1 = (n + 1) % 6 from by omega] at e
      rw [scratch_middle, pay2_apply, ← blockSum_eq m c ⟨n + 1, hn⟩ ((n + 1) % 6) rfl p q, ← e]
      rfl

/-- WHAT THE ARRAY ENDS HOLDING: the whole product, scaled by row and by column, plus the residual. -/
def result (c : Dev nD) : FVec Ideal S3072x4608 .bf16 := fun i =>
  ((∑ k : Fin 36864, X m c (ix2 (i 0) k) * W m c (ix2 k (i 1))) * XS m c (ix2 (i 0) (0 : Fin 1))) * WS m c (ix2 (0 : Fin 1) (i 1))
    + RES m c i

/-- The OUTPUT BLOCK stored at a run's last point. -/
theorem out_eq (c : Dev nD) (t : Fin cfg0.N) (ht : t.val % 6 = 5) (p : Fin 1024) (q : Fin 1536) :
    ((outsAt0 m c t.val t.isLt).1 : FVec Ideal S1024x1536 .bf16) (ix2 p q) = result m c (ix2 (row t p) (col t q)) := by
  rw [outsAt0_C m c t (by omega) (by omega) ht]
  dsimp only
  have hn : t.val - 1 < cfg0.N := Nat.lt_of_le_of_lt (Nat.sub_le _ _) t.isLt
  have hr : row ⟨t.val - 1, hn⟩ p = row t p := Fin.ext (by dsimp only [row]; omega)
  have hc : col ⟨t.val - 1, hn⟩ q = col t q := Fin.ext (by dsimp only [col]; omega)
  have e := scratch_eq m c (t.val - 1) hn (by omega) p q
  rw [hr, hc, show (t.val - 1) % 6 + 1 = 5 from by omega] at e
  rw [out_last, pay3_apply, e, blockSum_eq m c t 5 ht, partialSum_six, block1_apply, block3_apply, block4_apply]
  rfl

/-! ## The blocks tile the array -/

/-- What a run's last point writes back is its block of `result`. -/
theorem flushed_eq (c : Dev nD) (t : Fin cfg0.N) (hf : (cfg0.win 5).flush t = true) :
    (dats m 0 c).flushed 5 t = ((cfg0.win 5).blk t).view.read (Elt Ideal) (result m c) := by
  show (cfg0.win 5).cut (grid0.coords t) ((dats m 0 c).after 5 t) = _
  rw [after0_5]
  have ht : t.val % 6 = 5 := (flush0_5 t).mp hf
  obtain ⟨e0, e1⟩ := index5 t
  funext y
  obtain ⟨p, q, rfl⟩ : ∃ (p : Fin 1024) (q : Fin 1536), y = ix2 p q := ⟨y 0, y 1, eq_ix2 y⟩
  refine (out_eq m c t ht p q).trans ?_
  show result m c (ix2 (row t p) (col t q)) = result m c (((cfg0.win 5).blk t).view.emb (ix2 p q))
  refine congrArg (result m c) (funext fun a => Fin.ext ?_)
  match a with
  | ⟨0, _⟩ => show 1024 * (t.val / 18) + p.val = win0_5.index t (0 : Fin 2) * 1024 + 1 * p.val; omega
  | ⟨1, _⟩ => show 1536 * (t.val / 6 % 3) + q.val = win0_5.index t (1 : Fin 2) * 1536 + 1 * q.val; omega

/-- An array index lies in point `t`'s output block when each coordinate lies in the block's range. -/
theorem mem_block (t : Fin cfg0.N) (i : S3072x4608.Idx) :
    i ∈ ((cfg0.win 5).blk t).view.set ↔ ∀ a : Fin 2, win0_5.index t a * S1024x1536.size a ≤ (i a).val
      ∧ (i a).val < win0_5.index t a * S1024x1536.size a + S1024x1536.size a := by
  show i ∈ ((View.whole main_v4).slice (win0_5.rect t)).set ↔ _
  rw [View.set_slice_whole, Rect.mem_set_unit]
  exact Iff.rfl

/-- Every array index lies in the block some run's last point writes back. -/
theorem covered (i : S3072x4608.Idx) :
    ∃ t : Fin cfg0.N, (cfg0.win 5).flush t = true ∧ i ∈ ((cfg0.win 5).blk t).view.set := by
  have hi0 : (i 0).val < 3072 := (i 0).isLt
  have hi1 : (i 1).val < 4608 := (i 1).isLt
  have hN : cfg0.N = 54 := N_0
  let t : Fin cfg0.N := ⟨18 * ((i 0).val / 1024) + 6 * ((i 1).val / 1536) + 5, by omega⟩
  have hv : t.val = 18 * ((i 0).val / 1024) + 6 * ((i 1).val / 1536) + 5 := rfl
  obtain ⟨e0, e1⟩ := index5 t
  refine ⟨t, (flush0_5 t).mpr (by omega), (mem_block t i).mpr fun a => ?_⟩
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1536 ≤ (i 1).val ∧ (i 1).val < win0_5.index t (1 : Fin 2) * 1536 + 1536; omega

/-- THE OUTPUT ARRAY after the tiled loop is `result`. -/
theorem array_eq (c : Dev nD) : (dats m 0 c).arrAt 5 cfg0.N = result m c :=
  (dats m 0 c).arrAt_eq_of_cover 5 (result m c) (flushed_eq m c) covered

end Cert.KernelIdeal.Down

end
-- ==== Proof.Run.lean ====
/-
  The kernel's whole program, over the extended reals. Before the tiled loop the host drops the leading axis of size one from
  the arguments (and adds one to the column scales); after it the host puts the leading axis back on the result. Here: what
  the loop's five arrays hold in terms of the arguments, the result at an index, and the run.
-/
module

public import proofs.«01_k».proof.Proof.Array
public import Idealize.ShloMosaic.Lib.ValueLayout

@[expose] public section

noncomputable section

namespace Cert.KernelIdeal.Down

open Cert.KernelIdeal Cert.KernelIdeal.Gen Idealize.ShloMosaic Idealize.ShloMosaic.TcCoe Idealize.SL.Sem
open Idealize.ShloMosaic.ValueIdx Idealize.ShloMosaic.StableHlo
open scoped BigOperators

variable (m : (ℓ : Loc nD τ sig) → Buf (Elt Ideal) ℓ)

/-! ## The five arguments -/

/-- The quantized activations as given. -/
abbrev argX (c : Dev nD) : FVec Ideal S1x3072x36864 .fp8e4m3 := m (c.tc.loc main_arg0)
/-- The row scales as given. -/
abbrev argXS (c : Dev nD) : FVec Ideal S1x3072x1 .f32 := m (c.tc.loc main_arg1)
/-- The quantized weight as given. -/
abbrev argW (c : Dev nD) : FVec Ideal S36864x4608 .fp8e4m3 := m (c.tc.loc main_arg2)
/-- The column scales as given. -/
abbrev argWS (c : Dev nD) : FVec Ideal S4608 .f32 := m (c.tc.loc main_arg3)
/-- The residual as given. -/
abbrev argRES (c : Dev nD) : FVec Ideal S1x3072x4608 .bf16 := m (c.tc.loc main_arg4)

/-! ## The loop's arrays, from the arguments -/

/-- The loop's activations are the argument's, its leading axis dropped. -/
theorem X_eq (c : Dev nD) : X m c = shapeCast S3072x36864 (argX m c) shapeCasts_S1x3072x36864_S3072x36864 := by
  show StableHlo.after (List.flatten [hostOps0]) (fun b => m (c, b)) (Proc.devRef .tc main_v0) = _
  simp only [hostOps0, List.flatten_cons, List.flatten_nil, List.append_nil]
  after_results
  rfl
/-- The loop's row scales are the argument's, its leading axis dropped. -/
theorem XS_eq (c : Dev nD) : XS m c = shapeCast S3072x1 (argXS m c) shapeCasts_S1x3072x1_S3072x1 := by
  show StableHlo.after (List.flatten [hostOps0]) (fun b => m (c, b)) (Proc.devRef .tc main_v1) = _
  simp only [hostOps0, List.flatten_cons, List.flatten_nil, List.append_nil]
  after_results
  rfl
/-- The loop's weight is the argument. -/
theorem W_eq (c : Dev nD) : W m c = argW m c := V_main_arg2 m c
/-- The loop's column scales are the argument's, with a leading axis of size one. -/
theorem WS_eq (c : Dev nD) : WS m c = shapeCast S1x4608 (argWS m c) shapeCasts_S4608_S1x4608 := by
  show StableHlo.after (List.flatten [hostOps0]) (fun b => m (c, b)) (Proc.devRef .tc main_v2) = _
  simp only [hostOps0, List.flatten_cons, List.flatten_nil, List.append_nil]
  after_results
  rfl
/-- The loop's residual is the argument's, its leading axis dropped. -/
theorem RES_eq (c : Dev nD) : RES m c = shapeCast S3072x4608 (argRES m c) shapeCasts_S1x3072x4608_S3072x4608 := by
  show StableHlo.after (List.flatten [hostOps0]) (fun b => m (c, b)) (Proc.devRef .tc main_v3) = _
  simp only [hostOps0, List.flatten_cons, List.flatten_nil, List.append_nil]
  after_results
  rfl

/-! ## The result -/

/-- What the program returns: the loop's output array with a leading axis of size one. -/
def value (c : Dev nD) : FVec Ideal S1x3072x4608 .bf16 :=
  shapeCast S1x3072x4608 (result m c) shapeCasts_S3072x4608_S1x3072x4608

/-- THE KERNEL'S RESULT at an index, in terms of the arguments. -/
theorem value_apply (c : Dev nD) (b : Fin 1) (r : Fin 3072) (n : Fin 4608) :
    value m c (ix3 b r n)
      = ((∑ k : Fin 36864, argX m c (ix3 (0 : Fin 1) r k) * argW m c (ix2 k n)) * argXS m c (ix3 (0 : Fin 1) r (0 : Fin 1)))
          * argWS m c (ix1 n) + argRES m c (ix3 (0 : Fin 1) r n) := by
  have hX : ∀ k : Fin 36864, X m c (ix2 r k) = argX m c (ix3 (0 : Fin 1) r k) := fun k =>
    (congrFun (X_eq m c) _).trans (shapeCast_1ab_ab_apply (argX m c) _ r k)
  have hXS : XS m c (ix2 r (0 : Fin 1)) = argXS m c (ix3 (0 : Fin 1) r (0 : Fin 1)) :=
    (congrFun (XS_eq m c) _).trans (shapeCast_1ab_ab_apply (argXS m c) _ r 0)
  have hW : ∀ k : Fin 36864, W m c (ix2 k n) = argW m c (ix2 k n) := fun k => congrFun (W_eq m c) _
  have hWS : WS m c (ix2 (0 : Fin 1) n) = argWS m c (ix1 n) :=
    (congrFun (WS_eq m c) _).trans (shapeCast_a_1a_apply (argWS m c) _ 0 n)
  have hRES : RES m c (ix2 r n) = argRES m c (ix3 (0 : Fin 1) r n) :=
    (congrFun (RES_eq m c) _).trans (shapeCast_1ab_ab_apply (argRES m c) _ r n)
  refine (shapeCast_ab_1ab_apply (result m c) _ b r n).trans ?_
  show ((∑ k : Fin 36864, X m c (ix2 r k) * W m c (ix2 k n)) * XS m c (ix2 r (0 : Fin 1))) * WS m c (ix2 (0 : Fin 1) n)
    + RES m c (ix2 r n) = _
  rw [hXS, hWS, hRES, Finset.sum_congr rfl fun k _ => congrArg₂ (· * ·) (hX k) (hW k)]

/-- Distinct windows of the loop are over distinct arrays. -/
theorem arrays_distinct : Function.Injective (Pipeline.arrRef spec0) := by decide

/-- What the program's result buffer ends with. -/
theorem tail_eq (c : Dev nD) :
    Pipeline.afterTail₀ cfgs (dats m) 0 (V0 m) [hostOps1] c main_v5 = value m c := by
  show StableHlo.after (List.flatten [hostOps1]) (Pipeline.withArrays spec0 c (V0 m c) fun w => (dats m 0 c).arrAt w cfg0.N)
    (Proc.devRef .tc main_v5) = _
  simp only [hostOps1, List.flatten_cons, List.flatten_nil, List.append_nil]
  after_results
  have h : Pipeline.withArrays spec0 c (V0 m c) (fun w => (dats m 0 c).arrAt w cfg0.N) (Proc.devRef .tc main_v4) = result m c :=
    (Pipeline.withArrays_arr spec0 arrays_distinct c (V0 m c) (fun w => (dats m 0 c).arrAt w cfg0.N) 5).trans (array_eq m c)
  rw [h]
  rfl

/-- THE KERNEL'S RUN: it terminates without a fault, its result is `value`, and its arguments end unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  refine ⟨?_, h.2 c⟩
  exact ((h.1 c).2 main_v5 (Pipeline.mem_restRefs_of main_v5 (by decide) (by decide))).trans (tail_eq m c)

end Cert.KernelIdeal.Down

end
-- ==== Proof.Reference.lean ====
/-
  What the REFERENCE computes, over the extended reals: its one gridless call applies one expression to the whole arguments
  (`Value.G5`), and that expression at an index is the whole product, scaled by row and by column, plus the residual.
-/
module

public import proofs.«01_k».proof.Proof.Gen.ReferenceIdeal.Value
public import Idealize.ShloMosaic.Lib.ValueIdx
public import Idealize.ShloMosaic.PureOps.Ideal.Laws

@[expose] public section

noncomputable section

namespace Cert.ReferenceIdeal.Down

open Cert.ReferenceIdeal Cert.ReferenceIdeal.Gen Idealize.ShloMosaic Idealize.ShloMosaic.TcCoe Idealize.SL.Sem
open Idealize.ShloMosaic.ValueIdx
open scoped BigOperators

/-- The reference's product contracts one axis … -/
theorem contr_rank : dot_S1x3072x36864_S36864x4608_S1x3072x4608_2_0_01_1_n_n.contr.rank = 1 := rfl
/-- … of 36864 positions. -/
theorem contr_size : dot_S1x3072x36864_S36864x4608_S1x3072x4608_2_0_01_1_n_n.contr.size ⟨0, by rw [contr_rank]; exact Nat.one_pos⟩ = 36864 := rfl

/-- The reference's product at batch `b`, row `r`, column `n`: the sum of the products along the 36864 contracted positions. -/
theorem product_apply (x : FVec Ideal S1x3072x36864 .fp8e4m3) (w : FVec Ideal S36864x4608 .fp8e4m3) (b : Fin 1) (r : Fin 3072) (n : Fin 4608) :
    (matmul dot_S1x3072x36864_S36864x4608_S1x3072x4608_2_0_01_1_n_n none x w (constant (F := Ideal) S1x3072x4608 .f32 0x00000000#32)
      : FVec Ideal S1x3072x4608 .f32) (ix3 b r n) = ∑ k : Fin 36864, x (ix3 b r k) * w (ix2 k n) := by
  refine (Ideal.matmul_apply _ none x w _ _).trans ?_
  rw [constant_apply, Ideal.ofBits_zero_f32, zero_add, ← Equiv.sum_comp (contrEquiv1 _ 36864 contr_rank contr_size).symm]
  refine Finset.sum_congr rfl fun k _ => ?_
  have hk := contrEquiv1_symm_val _ 36864 contr_rank contr_size k
  have el : dot_S1x3072x36864_S36864x4608_S1x3072x4608_2_0_01_1_n_n.lhsIdx (ix3 b r n)
      ((contrEquiv1 _ 36864 contr_rank contr_size).symm k) = ix3 b r k := by
    funext a; apply Fin.ext
    match a with
    | ⟨0, _⟩ => rfl
    | ⟨1, _⟩ => rfl
    | ⟨2, _⟩ => exact hk
  have er : dot_S1x3072x36864_S36864x4608_S1x3072x4608_2_0_01_1_n_n.rhsIdx (ix3 b r n)
      ((contrEquiv1 _ 36864 contr_rank contr_size).symm k) = ix2 k n := by
    funext a; apply Fin.ext
    match a with
    | ⟨0, _⟩ => exact hk
    | ⟨1, _⟩ => rfl
  rw [el, er]

/-- The row scales, broadcast along the columns, read their row's scale. -/
theorem rowScale_apply (s : FVec Ideal S1x3072x1 .f32) (b : Fin 1) (r : Fin 3072) (n : Fin 4608) :
    broadcastTo S1x3072x4608 s broadcasts_S1x3072x1_S1x3072x4608 (ix3 b r n) = s (ix3 (0 : Fin 1) r (0 : Fin 1)) :=
  broadcastTo_apply s _ (ix3 b r n) (ix3 (0 : Fin 1) r (0 : Fin 1)) fun a => by
    match a with
    | ⟨0, _⟩ => rfl
    | ⟨1, _⟩ => rfl
    | ⟨2, _⟩ => rfl

/-- The column scales, given two leading axes of size one and broadcast, read their column's scale. -/
theorem colScale_apply (s : FVec Ideal S4608 .f32) (b : Fin 1) (r : Fin 3072) (n : Fin 4608) :
    broadcastTo S1x3072x4608 (shapeCast S1x1x4608 s shapeCasts_S4608_S1x1x4608) broadcasts_S1x1x4608_S1x3072x4608 (ix3 b r n)
      = s (ix1 n) := by
  refine (broadcastTo_apply _ _ (ix3 b r n) (ix3 (0 : Fin 1) (0 : Fin 1) n) fun a => ?_).trans ?_
  · match a with
    | ⟨0, _⟩ => rfl
    | ⟨1, _⟩ => rfl
    | ⟨2, _⟩ => rfl
  · refine shapeCast_apply s _ _ (ix1 n) ?_
    rw [Shape.rowMajor_val_one, Shape.rowMajor_val_three]
    show n.val = (0 * 1 + 0) * 4608 + n.val
    omega

/-- THE REFERENCE'S RESULT at an index. -/
theorem reference_apply (x : FVec Ideal S1x3072x36864 .fp8e4m3) (xs : FVec Ideal S1x3072x1 .f32) (w : FVec Ideal S36864x4608 .fp8e4m3)
    (ws : FVec Ideal S4608 .f32) (res : FVec Ideal S1x3072x4608 .bf16) (b : Fin 1) (r : Fin 3072) (n : Fin 4608) :
    Value.G5 (F := Ideal) x xs w ws res (ix3 b r n)
      = ((∑ k : Fin 36864, x (ix3 b r k) * w (ix2 k n)) * xs (ix3 (0 : Fin 1) r (0 : Fin 1))) * ws (ix1 n) + res (ix3 b r n) := by
  unfold Value.G5 k0_pay1
  rw [truncf_apply, addf_apply, mulf_apply, mulf_apply, extf_apply, rowScale_apply, colScale_apply, product_apply]

end Cert.ReferenceIdeal.Down

end
-- ==== Proof.Equal.lean ====
/-
  THE EQUATION, over the extended reals: what the kernel returns is what the reference's expression gives of the same arguments.
  Both are, at each index, the whole product scaled by row, then by column, plus the residual; no precondition is needed, since
  the kernel's six partial sums are regrouped by associativity alone.
-/
module

public import proofs.«01_k».proof.Proof.Run
public import proofs.«01_k».proof.Proof.Reference

@[expose] public section

noncomputable section

namespace Cert.Down

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- The reference's expression, at the kernel's arguments, is the kernel's result. -/
theorem reference_eq_kernel (c : Dev Cert.KernelIdeal.nD) :
    Cert.ReferenceIdeal.Value.G5 (F := Ideal) (KernelIdeal.Down.argX m c) (KernelIdeal.Down.argXS m c) (KernelIdeal.Down.argW m c)
      (KernelIdeal.Down.argWS m c) (KernelIdeal.Down.argRES m c) = KernelIdeal.Down.value m c := by
  funext i
  obtain ⟨b, r, n, rfl⟩ : ∃ (b : Fin 1) (r : Fin 3072) (n : Fin 4608), i = ix3 b r n := ⟨i 0, i 1, i 2, eq_ix3 i⟩
  obtain rfl : b = 0 := Subsingleton.elim _ _
  exact (ReferenceIdeal.Down.reference_apply _ _ _ _ _ 0 r n).trans (KernelIdeal.Down.value_apply m c 0 r n).symm

end Cert.Down

end
-- ==== Proof.lean ====
/-
  The proof of `Cert.Claim` (proofs.«01_k».proof.Defs). The frames of the three programs are the generated ones, the ideal
  kernel is the kernel's own text, and the value claim is assembled from the kernel's run (Proof/Run.lean), the reference's run
  (the generated Value module) and the equation between their results (Proof/Equal.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- THE VALUE CLAIM: from memories that agree on the five arguments, the kernel and the reference both run, end with the same
    result, and leave the arguments unchanged. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨fun c => KernelIdeal.Down.value m c, KernelIdeal.Down.run m g, ?_⟩
  refine (θ_run Cert.ReferenceIdeal.defs _ _).mono (fun r h c => ?_) (Cert.ReferenceIdeal.Value.run m' g')
  obtain ⟨h0, h1, h2, h3, h4⟩ := hagree c
  refine ⟨(h c).1.trans ?_, (h c).2⟩
  rw [h0, h1, h2, h3, h4]
  exact Cert.Down.reference_eq_kernel m c

/-- Everything claimed. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
